-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x1024x1024 : Shape := ⟨4, ![16, 3, 1024, 1024]⟩
abbrev S48x1024x1024 : Shape := ⟨3, ![48, 1024, 1024]⟩
abbrev S1x1024x1024 : Shape := ⟨3, ![1, 1024, 1024]⟩
abbrev S1024x1024 : Shape := ⟨2, ![1024, 1024]⟩
abbrev S1024x1 : Shape := ⟨2, ![1024, 1]⟩
abbrev S1024x20 : Shape := ⟨2, ![1024, 20]⟩
abbrev S1024x1064 : Shape := ⟨2, ![1024, 1064]⟩
abbrev S1x1064 : Shape := ⟨2, ![1, 1064]⟩
abbrev S20x1064 : Shape := ⟨2, ![20, 1064]⟩
abbrev S1064x1064 : Shape := ⟨2, ![1064, 1064]⟩
abbrev S1064x1063 : Shape := ⟨2, ![1064, 1063]⟩
abbrev S1064x1061 : Shape := ⟨2, ![1064, 1061]⟩
abbrev S1064x1057 : Shape := ⟨2, ![1064, 1057]⟩
abbrev S1064x1049 : Shape := ⟨2, ![1064, 1049]⟩
abbrev S1064x1044 : Shape := ⟨2, ![1064, 1044]⟩
abbrev S1063x1044 : Shape := ⟨2, ![1063, 1044]⟩
abbrev S1061x1044 : Shape := ⟨2, ![1061, 1044]⟩
abbrev S1057x1044 : Shape := ⟨2, ![1057, 1044]⟩
abbrev S1049x1044 : Shape := ⟨2, ![1049, 1044]⟩
abbrev S1044x1044 : Shape := ⟨2, ![1044, 1044]⟩
abbrev S256x256 : Shape := ⟨2, ![256, 256]⟩
abbrev S20x256 : Shape := ⟨2, ![20, 256]⟩
abbrev S256x20 : Shape := ⟨2, ![256, 20]⟩
abbrev S512x256 : Shape := ⟨2, ![512, 256]⟩
abbrev S40x256 : Shape := ⟨2, ![40, 256]⟩
abbrev S1044x256 : Shape := ⟨2, ![1044, 256]⟩
abbrev S1044x512 : Shape := ⟨2, ![1044, 512]⟩
abbrev S1044x20 : Shape := ⟨2, ![1044, 20]⟩
abbrev S1044x40 : Shape := ⟨2, ![1044, 40]⟩
abbrev S1044x1024 : Shape := ⟨2, ![1044, 1024]⟩
abbrev S256x512 : Shape := ⟨2, ![256, 512]⟩
abbrev S256x40 : Shape := ⟨2, ![256, 40]⟩
abbrev S256x1024 : Shape := ⟨2, ![256, 1024]⟩
abbrev S512x1024 : Shape := ⟨2, ![512, 1024]⟩
abbrev S20x1024 : Shape := ⟨2, ![20, 1024]⟩
abbrev S40x1024 : Shape := ⟨2, ![40, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x3x1024x1024, .f32⟩
  | .hbm, ⟨1, _⟩ => ⟨S48x1024x1024, .f32⟩
  | .hbm, ⟨2, _⟩ => ⟨S48x1024x1024, .f32⟩
  | .hbm, ⟨3, _⟩ => ⟨S16x3x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x3x1024x1024 : Shape := ⟨4, ![16, 3, 1024, 1024]⟩
abbrev S_ : Shape := ⟨0, ![]⟩
abbrev S1x3x1024x1024 : Shape := ⟨4, ![1, 3, 1024, 1024]⟩
abbrev S1x0x3x1024x1024 : Shape := ⟨5, ![1, 0, 3, 1024, 1024]⟩
abbrev S0x3x1024x1024 : Shape := ⟨4, ![0, 3, 1024, 1024]⟩
abbrev S16x1x1024x1024 : Shape := ⟨4, ![16, 1, 1024, 1024]⟩
abbrev S16x1x0x1024x1024 : Shape := ⟨5, ![16, 1, 0, 1024, 1024]⟩
abbrev S16x0x1024x1024 : Shape := ⟨4, ![16, 0, 1024, 1024]⟩
abbrev S16x3x1x1024 : Shape := ⟨4, ![16, 3, 1, 1024]⟩
abbrev S16x3x1x20x1024 : Shape := ⟨5, ![16, 3, 1, 20, 1024]⟩
abbrev S16x3x20x1024 : Shape := ⟨4, ![16, 3, 20, 1024]⟩
abbrev S16x3x1064x1024 : Shape := ⟨4, ![16, 3, 1064, 1024]⟩
abbrev S16x3x1064x1 : Shape := ⟨4, ![16, 3, 1064, 1]⟩
abbrev S16x3x1064x1x20 : Shape := ⟨5, ![16, 3, 1064, 1, 20]⟩
abbrev S16x3x1064x20 : Shape := ⟨4, ![16, 3, 1064, 20]⟩
abbrev S16x3x1064x1064 : Shape := ⟨4, ![16, 3, 1064, 1064]⟩
abbrev S16x3x1044x1044 : Shape := ⟨4, ![16, 3, 1044, 1044]⟩

abbrev nBuf : Space → Nat
  | .hbm => 58
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S_, .i32⟩
  | .hbm, ⟨2, _⟩ => ⟨S1x3x1024x1024, .f32⟩
  | .hbm, ⟨3, _⟩ => ⟨S1x0x3x1024x1024, .f32⟩
  | .hbm, ⟨4, _⟩ => ⟨S0x3x1024x1024, .f32⟩
  | .hbm, ⟨5, _⟩ => ⟨S1x3x1024x1024, .f32⟩
  | .hbm, ⟨6, _⟩ => ⟨S1x0x3x1024x1024, .f32⟩
  | .hbm, ⟨7, _⟩ => ⟨S0x3x1024x1024, .f32⟩
  | .hbm, ⟨8, _⟩ => ⟨S16x3x1024x1024, .f32⟩
  | .hbm, ⟨9, _⟩ => ⟨S16x1x1024x1024, .f32⟩
  | .hbm, ⟨10, _⟩ => ⟨S16x1x0x1024x1024, .f32⟩
  | .hbm, ⟨11, _⟩ => ⟨S16x0x1024x1024, .f32⟩
  | .hbm, ⟨12, _⟩ => ⟨S16x1x1024x1024, .f32⟩
  | .hbm, ⟨13, _⟩ => ⟨S16x1x0x1024x1024, .f32⟩
  | .hbm, ⟨14, _⟩ => ⟨S16x0x1024x1024, .f32⟩
  | .hbm, ⟨15, _⟩ => ⟨S16x3x1024x1024, .f32⟩
  | .hbm, ⟨16, _⟩ => ⟨S16x3x1x1024, .f32⟩
  | .hbm, ⟨17, _⟩ => ⟨S16x3x1x20x1024, .f32⟩
  | .hbm, ⟨18, _⟩ => ⟨S16x3x20x1024, .f32⟩
  | .hbm, ⟨19, _⟩ => ⟨S16x3x1x1024, .f32⟩
  | .hbm, ⟨20, _⟩ => ⟨S16x3x1x20x1024, .f32⟩
  | .hbm, ⟨21, _⟩ => ⟨S16x3x20x1024, .f32⟩
  | .hbm, ⟨22, _⟩ => ⟨S16x3x1064x1024, .f32⟩
  | .hbm, ⟨23, _⟩ => ⟨S16x3x1064x1, .f32⟩
  | .hbm, ⟨24, _⟩ => ⟨S16x3x1064x1x20, .f32⟩
  | .hbm, ⟨25, _⟩ => ⟨S16x3x1064x20, .f32⟩
  | .hbm, ⟨26, _⟩ => ⟨S16x3x1064x1, .f32⟩
  | .hbm, ⟨27, _⟩ => ⟨S16x3x1064x1x20, .f32⟩
  | .hbm, ⟨28, _⟩ => ⟨S16x3x1064x20, .f32⟩
  | .hbm, ⟨29, _⟩ => ⟨S16x3x1064x1064, .f32⟩
  | .hbm, ⟨30, _⟩ => ⟨S_, .f32⟩
  | .hbm, ⟨31, _⟩ => ⟨S_, .f32⟩
  | .hbm, ⟨32, _⟩ => ⟨S16x3x1044x1044, .f32⟩
  | .hbm, ⟨33, _⟩ => ⟨S_, .f32⟩
  | .hbm, ⟨34, _⟩ => ⟨S_, .f32⟩
  | .hbm, ⟨35, _⟩ => ⟨S16x3x1044x1044, .f32⟩
  | .hbm, ⟨36, _⟩ => ⟨S16x3x1044x1044, .f32⟩
  | .hbm, ⟨37, _⟩ => ⟨S_, .f32⟩
  | .hbm, ⟨38, _⟩ => ⟨S16x3x1044x1044, .f32⟩
  | .hbm, ⟨39, _⟩ => ⟨S16x3x1044x1044, .f32⟩
  | .hbm, ⟨40, _⟩ => ⟨S_, .f32⟩
  | .hbm, ⟨41, _⟩ => ⟨S16x3x1044x1044, .f32⟩
  | .hbm, ⟨42, _⟩ => ⟨S16x3x1044x1044, .f32⟩
  | .hbm, ⟨43, _⟩ => ⟨S16x3x1044x1044, .f32⟩
  | .hbm, ⟨44, _⟩ => ⟨S_, .f32⟩
  | .hbm, ⟨45, _⟩ => ⟨S_, .f32⟩
  | .hbm, ⟨46, _⟩ => ⟨S16x3x1024x1024, .f32⟩
  | .hbm, ⟨47, _⟩ => ⟨S_, .f32⟩
  | .hbm, ⟨48, _⟩ => ⟨S16x3x1024x1024, .f32⟩
  | .hbm, ⟨49, _⟩ => ⟨S16x3x1024x1024, .f32⟩
  | .hbm, ⟨50, _⟩ => ⟨S_, .f32⟩
  | .hbm, ⟨51, _⟩ => ⟨S_, .f32⟩
  | .hbm, ⟨52, _⟩ => ⟨S16x3x1024x1024, .f32⟩
  | .hbm, ⟨53, _⟩ => ⟨S_, .f32⟩
  | .hbm, ⟨54, _⟩ => ⟨S16x3x1024x1024, .f32⟩
  | .hbm, ⟨55, _⟩ => ⟨S16x3x1024x1024, .f32⟩
  | .hbm, ⟨56, _⟩ => ⟨S16x3x1024x1024, .f32⟩
  | .hbm, ⟨57, _⟩ => ⟨S16x3x1024x1024, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_call0_v15 : Ref sig .tc := ⟨.hbm, 17, rfl⟩
abbrev main_call0_v16 : Ref sig .tc := ⟨.hbm, 18, rfl⟩
abbrev main_call0_v17 : Ref sig .tc := ⟨.hbm, 19, rfl⟩
abbrev main_call0_v18 : Ref sig .tc := ⟨.hbm, 20, rfl⟩
abbrev main_call0_v19 : Ref sig .tc := ⟨.hbm, 21, rfl⟩
abbrev main_call0_v20 : Ref sig .tc := ⟨.hbm, 22, rfl⟩
abbrev main_call0_v21 : Ref sig .tc := ⟨.hbm, 23, rfl⟩
abbrev main_call0_v22 : Ref sig .tc := ⟨.hbm, 24, rfl⟩
abbrev main_call0_v23 : Ref sig .tc := ⟨.hbm, 25, rfl⟩
abbrev main_call0_v24 : Ref sig .tc := ⟨.hbm, 26, rfl⟩
abbrev main_call0_v25 : Ref sig .tc := ⟨.hbm, 27, rfl⟩
abbrev main_call0_v26 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_cst_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst_1 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_3 : Ref sig .tc := ⟨.hbm, 44, rfl⟩
abbrev main_v11 : Ref sig .tc := ⟨.hbm, 45, rfl⟩
abbrev main_v12 : Ref sig .tc := ⟨.hbm, 46, rfl⟩
abbrev main_cst_4 : Ref sig .tc := ⟨.hbm, 47, rfl⟩
abbrev main_v13 : Ref sig .tc := ⟨.hbm, 48, rfl⟩
abbrev main_v14 : Ref sig .tc := ⟨.hbm, 49, rfl⟩
abbrev main_cst_5 : Ref sig .tc := ⟨.hbm, 50, rfl⟩
abbrev main_v15 : Ref sig .tc := ⟨.hbm, 51, rfl⟩
abbrev main_v16 : Ref sig .tc := ⟨.hbm, 52, rfl⟩
abbrev main_cst_6 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩

abbrev nD : Nat := 1
abbrev τ : Topo := Topo.v7x

variable {F : FTy → Type} [FloatOps F]
-- ==== Proof.Spec.lean ====
/- The mathematics of the smoothed local normalization of one plane of 1024 × 1024 pixels, on the extended reals. -/
module

public import Idealize.ShloMosaic.PureOps.Ideal

@[expose] public section

noncomputable section

namespace Cert.Proof

open Idealize.ShloMosaic Finset

/-- A coordinate held back to the last pixel. -/
def clampIdx (n : ℕ) : Fin 1024 := ⟨min n 1023, by omega⟩

/-- The plane with 20 copies of its border pixels on each side. -/
def edge (x : Fin 1024 → Fin 1024 → EReal) (i j : ℕ) : EReal := x (clampIdx (i - 20)) (clampIdx (j - 20))

/-- The least value of the 21 × 21 window that starts at `(i, j)`. -/
def winMin (p : ℕ → ℕ → EReal) (i j : ℕ) : EReal := (range 21).inf fun s => (range 21).inf fun t => p (i + s) (j + t)

/-- The greatest value of the 21 × 21 window that starts at `(i, j)`. -/
def winMax (p : ℕ → ℕ → EReal) (i j : ℕ) : EReal := (range 21).sup fun s => (range 21).sup fun t => p (i + s) (j + t)

/-- The sum of the 21 × 21 window that starts at `(i, j)`. -/
def winSum (p : ℕ → ℕ → EReal) (i j : ℕ) : EReal := ∑ s ∈ range 21, ∑ t ∈ range 21, p (i + s) (j + t)

/-- The number one, as the programs write it. -/
def one : EReal := Ideal.ofBits .f32 0x3F800000#32

/-- The small number that keeps the division away from zero. -/
def eps : EReal := Ideal.ofBits .f32 0x322BCC77#32

/-- One over the number of pixels of a window, rounded as the programs write it. -/
def invArea : EReal := Ideal.ofBits .f32 0x3B149B93#32

/-- The slope of a window's normalization. -/
def slope (p : ℕ → ℕ → EReal) (i j : ℕ) : EReal := Ideal.div one (winMax p i j - winMin p i j + eps)

/-- The offset of a window's normalization. -/
def offset (p : ℕ → ℕ → EReal) (i j : ℕ) : EReal := winMin p i j * slope p i j

/-- The smoothed normalization of the plane `x`: each pixel under the average slope and offset of the windows that hold it. -/
def normPlane (x : Fin 1024 → Fin 1024 → EReal) (h w : Fin 1024) : EReal :=
  x h w * (winSum (slope (edge x)) h w * invArea) - winSum (offset (edge x)) h w * invArea

end Cert.Proof

end
-- ==== Proof.Windows.lean ====
/- Least and greatest values over 21 neighbours, built by doubling; sums over 21 neighbours, picked out by a band of ones. -/
module

public import proofs.«01_k».proof.Proof.Spec

@[expose] public section

noncomputable section

namespace Cert.Proof

open Idealize.ShloMosaic Finset

/-- The greatest of `n` neighbours from `c` on. -/
def supN (n : ℕ) (f : ℕ → EReal) (c : ℕ) : EReal := (range n).sup fun t => f (c + t)

/-- The least of `n` neighbours from `c` on. -/
def infN (n : ℕ) (f : ℕ → EReal) (c : ℕ) : EReal := (range n).inf fun t => f (c + t)

/-- Two overlapping runs of neighbours make one. -/
theorem supN_max {m k n : ℕ} (f : ℕ → EReal) (c : ℕ) (hk : k ≤ m) (hn : n = k + m) :
    max (supN m f c) (supN m f (k + c)) = supN n f c := by
  subst hn
  apply le_antisymm
  · apply max_le <;> refine Finset.sup_le fun t ht => ?_ <;> rw [mem_range] at ht
    · exact Finset.le_sup (f := fun t => f (c + t)) (mem_range.2 (by omega))
    · rw [show k + c + t = c + (k + t) by omega]
      exact Finset.le_sup (f := fun t => f (c + t)) (mem_range.2 (by omega))
  · refine Finset.sup_le fun t ht => ?_
    rw [mem_range] at ht
    by_cases h : t < m
    · exact le_max_of_le_left (Finset.le_sup (f := fun t => f (c + t)) (mem_range.2 h))
    · refine le_max_of_le_right ?_
      rw [show c + t = k + c + (t - k) by omega]
      exact Finset.le_sup (f := fun t => f (k + c + t)) (mem_range.2 (by omega))

/-- Two overlapping runs of neighbours make one. -/
theorem infN_min {m k n : ℕ} (f : ℕ → EReal) (c : ℕ) (hk : k ≤ m) (hn : n = k + m) :
    min (infN m f c) (infN m f (k + c)) = infN n f c := by
  subst hn
  apply le_antisymm
  · refine Finset.le_inf fun t ht => ?_
    rw [mem_range] at ht
    by_cases h : t < m
    · exact min_le_of_left_le (Finset.inf_le (f := fun t => f (c + t)) (mem_range.2 h))
    · refine min_le_of_right_le ?_
      rw [show c + t = k + c + (t - k) by omega]
      exact Finset.inf_le (f := fun t => f (k + c + t)) (mem_range.2 (by omega))
  · apply le_min <;> refine Finset.le_inf fun t ht => ?_ <;> rw [mem_range] at ht
    · exact Finset.inf_le (f := fun t => f (c + t)) (mem_range.2 (by omega))
    · rw [show k + c + t = c + (k + t) by omega]
      exact Finset.inf_le (f := fun t => f (c + t)) (mem_range.2 (by omega))

/-- Two maxima over one entry, 1 apart, make the maximum over 2. -/
theorem supN_two (f : ℕ → EReal) (c : ℕ) : max (f c) (f (1 + c)) = supN 2 f c := by
  have h : ∀ c, supN 1 f c = f c := fun c => by simp [supN]
  rw [← supN_max (m := 1) (k := 1) f c le_rfl rfl, h, h]

/-- Two minima over one entry, 1 apart, make the minimum over 2. -/
theorem infN_two (f : ℕ → EReal) (c : ℕ) : min (f c) (f (1 + c)) = infN 2 f c := by
  have h : ∀ c, infN 1 f c = f c := fun c => by simp [infN]
  rw [← infN_min (m := 1) (k := 1) f c le_rfl rfl, h, h]

/-- Two maxima over 2 entries, 2 apart, make the maximum over 4. -/
theorem supN_four (f : ℕ → EReal) (c : ℕ) : max (supN 2 f c) (supN 2 f (2 + c)) = supN 4 f c := supN_max f c le_rfl rfl
/-- Two maxima over 4 entries, 4 apart, make the maximum over 8. -/
theorem supN_eight (f : ℕ → EReal) (c : ℕ) : max (supN 4 f c) (supN 4 f (4 + c)) = supN 8 f c := supN_max f c le_rfl rfl
/-- Two maxima over 8 entries, 8 apart, make the maximum over 16. -/
theorem supN_sixteen (f : ℕ → EReal) (c : ℕ) : max (supN 8 f c) (supN 8 f (8 + c)) = supN 16 f c := supN_max f c le_rfl rfl
/-- Two maxima over 16 entries, 5 apart, make the maximum over 21. -/
theorem supN_window (f : ℕ → EReal) (c : ℕ) : max (supN 16 f c) (supN 16 f (5 + c)) = supN 21 f c := supN_max f c (by omega) rfl
/-- Two minima over 2 entries, 2 apart, make the minimum over 4. -/
theorem infN_four (f : ℕ → EReal) (c : ℕ) : min (infN 2 f c) (infN 2 f (2 + c)) = infN 4 f c := infN_min f c le_rfl rfl
/-- Two minima over 4 entries, 4 apart, make the minimum over 8. -/
theorem infN_eight (f : ℕ → EReal) (c : ℕ) : min (infN 4 f c) (infN 4 f (4 + c)) = infN 8 f c := infN_min f c le_rfl rfl
/-- Two minima over 8 entries, 8 apart, make the minimum over 16. -/
theorem infN_sixteen (f : ℕ → EReal) (c : ℕ) : min (infN 8 f c) (infN 8 f (8 + c)) = infN 16 f c := infN_min f c le_rfl rfl
/-- Two minima over 16 entries, 5 apart, make the minimum over 21. -/
theorem infN_window (f : ℕ → EReal) (c : ℕ) : min (infN 16 f c) (infN 16 f (5 + c)) = infN 21 f c := infN_min f c (by omega) rfl

/-- An extended real that is a real number. -/
def IsReal (x : EReal) : Prop := ∃ r : ℝ, x = (r : EReal)

/-- A real number minus itself is zero. -/
theorem IsReal.sub_self {x : EReal} (h : IsReal x) : x - x = 0 := by
  obtain ⟨r, rfl⟩ := h
  rw [← EReal.coe_sub, _root_.sub_self, EReal.coe_zero]

/-- A sum of two real numbers is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- A product of two real numbers is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of real numbers is real. -/
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- The sum of the 21 neighbours from `c` on. -/
def sumN (f : ℕ → EReal) (c : ℕ) : EReal := ∑ t ∈ range 21, f (c + t)

/-- The band of ones of a block of 256 columns, on its 256 own places and on the 20 places after them, adds up the 21
    neighbours; the part below the rounding is zero. -/
theorem band (g : ℕ → EReal) (hg : ∀ i, IsReal (g i)) {o o' c k : ℕ} (hc : c < 256) (ho : o' = o + 256) (hk : k = o + c) :
    ∑ x : Fin 256, g (o + x) * (if c ≤ x ∧ (x : ℕ) ≤ c + 20 then 1 else 0)
      + ∑ x : Fin 256, (g (o + x) - g (o + x)) * (if c ≤ x ∧ (x : ℕ) ≤ c + 20 then 1 else 0)
      + (∑ x : Fin 20, g (o' + x) * (if 256 + (x : ℕ) ≤ c + 20 then 1 else 0)
        + ∑ x : Fin 20, (g (o' + x) - g (o' + x)) * (if 256 + (x : ℕ) ≤ c + 20 then 1 else 0))
      = sumN g k := by
  subst ho hk
  simp only [(hg _).sub_self, zero_mul, mul_ite, mul_one, mul_zero, ite_self, Finset.sum_const_zero, add_zero]
  rw [Fin.sum_univ_eq_sum_range (fun x => if c ≤ x ∧ x ≤ c + 20 then g (o + x) else 0) 256,
    Fin.sum_univ_eq_sum_range (fun x => if 256 + x ≤ c + 20 then g (o + 256 + x) else 0) 20]
  have h2 : ∑ x ∈ range 20, (if 256 + x ≤ c + 20 then g (o + 256 + x) else 0)
      = ∑ x ∈ range 20, (fun x => if c ≤ x ∧ x ≤ c + 20 then g (o + x) else 0) (256 + x) := by
    refine Finset.sum_congr rfl fun x _ => ?_
    simp only [show c ≤ 256 + x by omega, true_and, Nat.add_assoc]
  rw [h2, ← Finset.sum_range_add, ← Finset.sum_filter]
  have h3 : (range (256 + 20)).filter (fun x => c ≤ x ∧ x ≤ c + 20) = Ico c (c + 21) := by
    ext x; simp only [mem_filter, mem_range, mem_Ico]; omega
  rw [h3, Finset.sum_Ico_eq_sum_range, sumN, show c + 21 - c = 21 by omega]
  simp only [Nat.add_assoc]

/-- The same for the first block. -/
theorem band_first (g : ℕ → EReal) (hg : ∀ i, IsReal (g i)) {c : ℕ} (hc : c < 256) :
    ∑ x : Fin 256, g x * (if c ≤ x ∧ (x : ℕ) ≤ c + 20 then 1 else 0)
      + ∑ x : Fin 256, (g x - g x) * (if c ≤ x ∧ (x : ℕ) ≤ c + 20 then 1 else 0)
      + (∑ x : Fin 20, g (256 + x) * (if 256 + (x : ℕ) ≤ c + 20 then 1 else 0)
        + ∑ x : Fin 20, (g (256 + x) - g (256 + x)) * (if 256 + (x : ℕ) ≤ c + 20 then 1 else 0))
      = sumN g c := by
  have h := band g hg (o := 0) hc (Nat.zero_add 256).symm (Nat.zero_add c).symm
  simpa only [Nat.zero_add] using h

/-- The four blocks of 256 places together. -/
theorem bands (g : ℕ → EReal) (hg : ∀ i, IsReal (g i)) {c : ℕ} (hc : c < 1024) :
    (if c < 256 then
      ∑ x : Fin 256, g x * (if c ≤ x ∧ (x : ℕ) ≤ c + 20 then 1 else 0)
      + ∑ x : Fin 256, (g x - g x) * (if c ≤ x ∧ (x : ℕ) ≤ c + 20 then 1 else 0)
      + (∑ x : Fin 20, g (256 + x) * (if 256 + (x : ℕ) ≤ c + 20 then 1 else 0)
        + ∑ x : Fin 20, (g (256 + x) - g (256 + x)) * (if 256 + (x : ℕ) ≤ c + 20 then 1 else 0))
    else if c - 256 < 256 then
      ∑ x : Fin 256, g (256 + x) * (if c - 256 ≤ x ∧ (x : ℕ) ≤ c - 256 + 20 then 1 else 0)
      + ∑ x : Fin 256, (g (256 + x) - g (256 + x)) * (if c - 256 ≤ x ∧ (x : ℕ) ≤ c - 256 + 20 then 1 else 0)
      + (∑ x : Fin 20, g (512 + x) * (if 256 + (x : ℕ) ≤ c - 256 + 20 then 1 else 0)
        + ∑ x : Fin 20, (g (512 + x) - g (512 + x)) * (if 256 + (x : ℕ) ≤ c - 256 + 20 then 1 else 0))
    else if c - 256 - 256 < 256 then
      ∑ x : Fin 256, g (512 + x) * (if c - 256 - 256 ≤ x ∧ (x : ℕ) ≤ c - 256 - 256 + 20 then 1 else 0)
      + ∑ x : Fin 256, (g (512 + x) - g (512 + x)) * (if c - 256 - 256 ≤ x ∧ (x : ℕ) ≤ c - 256 - 256 + 20 then 1 else 0)
      + (∑ x : Fin 20, g (768 + x) * (if 256 + (x : ℕ) ≤ c - 256 - 256 + 20 then 1 else 0)
        + ∑ x : Fin 20, (g (768 + x) - g (768 + x)) * (if 256 + (x : ℕ) ≤ c - 256 - 256 + 20 then 1 else 0))
    else
      ∑ x : Fin 256, g (768 + x) * (if c - 256 - 256 - 256 ≤ x ∧ (x : ℕ) ≤ c - 256 - 256 - 256 + 20 then 1 else 0)
      + ∑ x : Fin 256, (g (768 + x) - g (768 + x)) * (if c - 256 - 256 - 256 ≤ x ∧ (x : ℕ) ≤ c - 256 - 256 - 256 + 20 then 1 else 0)
      + (∑ x : Fin 20, g (1024 + x) * (if 256 + (x : ℕ) ≤ c - 256 - 256 - 256 + 20 then 1 else 0)
        + ∑ x : Fin 20, (g (1024 + x) - g (1024 + x)) * (if 256 + (x : ℕ) ≤ c - 256 - 256 - 256 + 20 then 1 else 0)))
      = sumN g c := by
  split_ifs with h1 h2 h3
  · exact band_first g hg h1
  · exact band g hg h2 rfl (by omega)
  · exact band g hg h3 rfl (by omega)
  · exact band g hg (by omega) rfl (by omega)

end Cert.Proof

end
-- ==== Proof.Algebra.lean ====
/- Slopes and offsets of the windows are real numbers, and the two orders of averaging agree. -/
module

public import proofs.«01_k».proof.Proof.Windows
public import Idealize.ShloMosaic.Lib.IdealHost

@[expose] public section

noncomputable section

namespace Cert.Proof

open Idealize.ShloMosaic Finset

/-- The constant one is 1. -/
theorem one_eq : one = 1 := Ideal.ofBits_one_f32

/-- The small number is a positive real. -/
theorem eps_pos : ∃ r : ℝ, 0 < r ∧ eps = (r : EReal) := by
  refine ⟨(2 ^ 23 + 2870391 : ℕ) * (2 : ℝ) ^ (-50 : ℤ), by positivity, ?_⟩
  simp [eps, Ideal.ofBits, Ideal.ieee]

/-- The factor 1/441 is a real number. -/
theorem invArea_real : IsReal invArea := by
  refine ⟨(2 ^ 23 + 1350547 : ℕ) * (2 : ℝ) ^ (-32 : ℤ), ?_⟩
  simp [invArea, Ideal.ofBits, Ideal.ieee]

/-- A window's least value is at most its greatest. -/
theorem winMin_le_winMax (p : ℕ → ℕ → EReal) (i j : ℕ) : winMin p i j ≤ winMax p i j :=
  ((Finset.inf_le (mem_range.2 (by omega : 0 < 21))).trans (Finset.inf_le (mem_range.2 (by omega : 0 < 21)))).trans
    ((Finset.le_sup (f := fun t => p (i + 0) (j + t)) (mem_range.2 (by omega : 0 < 21))).trans
      (Finset.le_sup (f := fun s => (range 21).sup fun t => p (i + s) (j + t)) (mem_range.2 (by omega : 0 < 21))))

/-- For `a ≤ b`, one over `b - a + eps` and `a` over the same are real numbers. -/
theorem slope_real_aux {a b : EReal} (h : a ≤ b) :
    IsReal (Ideal.div 1 (b - a + eps)) ∧ IsReal (a * Ideal.div 1 (b - a + eps)) := by
  obtain ⟨e, he, hE⟩ := eps_pos
  rw [hE]
  have zero : IsReal 0 := ⟨0, by simp⟩
  have top : Ideal.div 1 (⊤ : EReal) = 0 := by simp [Ideal.div]
  have bot : Ideal.div 1 (⊥ : EReal) = 0 := by simp [Ideal.div]
  induction a with
  | bot =>
    induction b with
    | bot => simp [bot, zero]
    | top => simp [top, zero]
    | coe b => simp [top, zero]
  | top =>
    rw [top_le_iff.1 h]
    simp [bot, zero]
  | coe a =>
    induction b with
    | bot => exact absurd h (by simp)
    | top => simp [top, zero]
    | coe b =>
      have hab : a ≤ b := EReal.coe_le_coe_iff.1 h
      have hd : (b : EReal) - a + e = ((b - a + e : ℝ) : EReal) := by push_cast; rfl
      have hr : IsReal (Ideal.div 1 ((b : EReal) - a + e)) := by
        rw [hd]
        refine ⟨(b - a + e)⁻¹, ?_⟩
        rw [Ideal.div, if_neg (by rw [EReal.coe_eq_zero]; linarith), one_mul, EReal.coe_inv]
      exact ⟨hr, IsReal.mul ⟨a, rfl⟩ hr⟩

/-- Every slope is a real number, whatever the image holds. -/
theorem slope_real (p : ℕ → ℕ → EReal) (i j : ℕ) : IsReal (slope p i j) := by
  rw [slope, one_eq]; exact (slope_real_aux (winMin_le_winMax p i j)).1

/-- Every offset is a real number, whatever the image holds. -/
theorem offset_real (p : ℕ → ℕ → EReal) (i j : ℕ) : IsReal (offset p i j) := by
  rw [offset, slope, one_eq]; exact (slope_real_aux (winMin_le_winMax p i j)).2

/-- A window sum of real numbers is a real number. -/
theorem winSum_real {p : ℕ → ℕ → EReal} (h : ∀ i j, IsReal (p i j)) (i j : ℕ) : IsReal (winSum p i j) :=
  IsReal.sum _ fun _ => IsReal.sum _ fun _ => h _ _

/-- Dividing by the window's area after the affine step or before it is one value. -/
theorem scale_last (x : EReal) {a b c : EReal} (ha : IsReal a) (hb : IsReal b) (hc : IsReal c) :
    (x * a - b) * c = x * (a * c) - b * c := by
  obtain ⟨a, rfl⟩ := ha
  obtain ⟨b, rfl⟩ := hb
  obtain ⟨c, rfl⟩ := hc
  rw [← EReal.coe_mul b c, ← EReal.coe_mul a c]
  induction x with
  | coe x => norm_cast; ring
  | top =>
    rcases lt_trichotomy a 0 with h | rfl | h <;> rcases lt_trichotomy c 0 with k | rfl | k
    · rw [EReal.top_mul_coe_of_neg h, EReal.bot_sub, EReal.bot_mul_coe_of_neg k,
        EReal.top_mul_coe_of_pos (mul_pos_of_neg_of_neg h k), EReal.top_sub_coe]
    · simp
    · rw [EReal.top_mul_coe_of_neg h, EReal.bot_sub, EReal.bot_mul_coe_of_pos k,
        EReal.top_mul_coe_of_neg (mul_neg_of_neg_of_pos h k), EReal.bot_sub]
    all_goals first
      | (simp; done)
      | (simp; norm_cast; ring1)
      | (rw [EReal.top_mul_coe_of_pos h, EReal.top_sub_coe, EReal.top_mul_coe_of_neg k,
          EReal.top_mul_coe_of_neg (mul_neg_of_pos_of_neg h k), EReal.bot_sub])
      | (rw [EReal.top_mul_coe_of_pos h, EReal.top_sub_coe, EReal.top_mul_coe_of_pos k,
          EReal.top_mul_coe_of_pos (mul_pos h k), EReal.top_sub_coe])
  | bot =>
    rcases lt_trichotomy a 0 with h | rfl | h <;> rcases lt_trichotomy c 0 with k | rfl | k
    · rw [EReal.bot_mul_coe_of_neg h, EReal.top_sub_coe, EReal.top_mul_coe_of_neg k,
        EReal.bot_mul_coe_of_pos (mul_pos_of_neg_of_neg h k), EReal.bot_sub]
    · simp
    · rw [EReal.bot_mul_coe_of_neg h, EReal.top_sub_coe, EReal.top_mul_coe_of_pos k,
        EReal.bot_mul_coe_of_neg (mul_neg_of_neg_of_pos h k), EReal.top_sub_coe]
    all_goals first
      | (simp; done)
      | (simp; norm_cast; ring1)
      | (rw [EReal.bot_mul_coe_of_pos h, EReal.bot_sub, EReal.bot_mul_coe_of_neg k,
          EReal.bot_mul_coe_of_neg (mul_neg_of_pos_of_neg h k), EReal.top_sub_coe])
      | (rw [EReal.bot_mul_coe_of_pos h, EReal.bot_sub, EReal.bot_mul_coe_of_pos k,
          EReal.bot_mul_coe_of_pos (mul_pos h k), EReal.bot_sub])

end Cert.Proof

end
-- ==== Proof.Extremes.lean ====
/- What the kernel's block computes first: the widened plane, the least and greatest values of the windows, the slopes and
   the offsets. -/
module

public import proofs.«01_k».proof.Proof.Gen.KernelIdeal.Skeleton
public import proofs.«01_k».proof.Proof.Algebra
public import Idealize.ShloMosaic.Lib.Pointwise

@[expose] public section

set_option maxRecDepth 16384

noncomputable section

namespace Cert.Proof

open Idealize.ShloMosaic Idealize.SL.Sem
open Cert.KernelIdeal Cert.KernelIdeal.Gen

/-- The plane that a block with a leading axis of size one holds. -/
def blockPlane (v : Vec Ideal S1x1024x1024 .f32) (h w : Fin 1024) : EReal := v (ix3 0 h w)

/-- The widened block is the plane with its border pixels repeated. -/
theorem pay3_at (v : Vec Ideal S1x1024x1024 .f32) (r c : Fin 1064) : k0_pay3 v (ix2 r c) = edge (blockPlane v) r c := by
  pointwise [k0_pay3, k0_pay2]
  have e : ∀ m n : Fin 1024, (m : ℕ) = min ((r : ℕ) - 20) 1023 → (n : ℕ) = min ((c : ℕ) - 20) 1023 →
      v (ix3 0 m n) = edge (blockPlane v) r c := fun m n h k => by
    rw [show m = clampIdx (r - 20) from Fin.ext h, show n = clampIdx (c - 20) from Fin.ext k]; rfl
  have hr := r.isLt
  have hc := c.isLt
  split_ifs
  all_goals
    refine e _ _ ?_ ?_
    all_goals first
      | (change 0 = _; omega)
      | (change 1023 = _; omega)
      | (change _ - 20 = _; omega)

/-- The larger of two neighbours in a row is the maximum over two. -/
theorem edge_two (p : ℕ → ℕ → EReal) (i j : ℕ) : max (p i j) (p i (1 + j)) = supN 2 (p i) j := supN_two _ _
/-- The smaller of two neighbours in a row is the minimum over two. -/
theorem edge_two' (p : ℕ → ℕ → EReal) (i j : ℕ) : min (p i j) (p i (1 + j)) = infN 2 (p i) j := infN_two _ _
/-- The larger of two row maxima in neighbouring rows is the maximum over two rows. -/
theorem rows_two (p : ℕ → ℕ → EReal) (i j : ℕ) :
    max (supN 21 (p i) j) (supN 21 (p (1 + i)) j) = supN 2 (fun i => supN 21 (p i) j) i := supN_two (fun i => supN 21 (p i) j) _
/-- The smaller of two row minima in neighbouring rows is the minimum over two rows. -/
theorem rows_two' (p : ℕ → ℕ → EReal) (i j : ℕ) :
    min (infN 21 (p i) j) (infN 21 (p (1 + i)) j) = infN 2 (fun i => infN 21 (p i) j) i := infN_two (fun i => infN 21 (p i) j) _

/-- The greatest of 21 neighbours along each row. -/
theorem pay4_at (v : Vec Ideal S1x1024x1024 .f32) (r : Fin 1064) (c : Fin 1044) :
    k0_pay4 v (ix2 r c) = supN 21 (edge (blockPlane v) r) c := by
  pointwise [k0_pay4]
  simp only [pay3_at]
  generalize edge (blockPlane v) = p
  simp only [edge_two, supN_four, supN_eight, supN_sixteen, supN_window]

/-- The least of 21 neighbours along each row, then of 8 along each column. -/
theorem pay5_at (v : Vec Ideal S1x1024x1024 .f32) (r : Fin 1057) (c : Fin 1044) :
    k0_pay5 v (ix2 r c) = infN 8 (fun i => infN 21 (edge (blockPlane v) i) c) r := by
  pointwise [k0_pay5]
  simp only [pay3_at]
  generalize edge (blockPlane v) = p
  simp only [edge_two', infN_four, infN_eight, infN_sixteen, infN_window, rows_two']

/-- The same 8 column minima of the 21 row minima, for the rows that the next doubling starts from. -/
theorem pay6_at (v : Vec Ideal S1x1024x1024 .f32) (r : Fin 1049) (c : Fin 1044) :
    k0_pay6 v (ix2 r c) = infN 8 (fun i => infN 21 (edge (blockPlane v) i) c) r := by
  pointwise [k0_pay6]
  exact pay5_at v _ _

variable {v45 : FVec Ideal S1064x1044 .f32} {v54 : FVec Ideal S1057x1044 .f32} {v55 : FVec Ideal S1049x1044 .f32}
  {p : ℕ → ℕ → EReal}

/-- The least value of each window. -/
theorem pay7_at (h54 : ∀ r c, v54 (ix2 r c) = infN 8 (fun i => infN 21 (p i) c) r)
    (h55 : ∀ r c, v55 (ix2 r c) = infN 8 (fun i => infN 21 (p i) c) r) (r c : Fin 1044) :
    k0_pay7 v54 v55 (ix2 r c) = winMin p r c := by
  pointwise [k0_pay7]
  simp only [h54, h55, infN_sixteen, infN_window]
  rfl

/-- The slope of each window. -/
theorem pay8_at (h45 : ∀ r c, v45 (ix2 r c) = supN 21 (p r) c)
    (h54 : ∀ r c, v54 (ix2 r c) = infN 8 (fun i => infN 21 (p i) c) r)
    (h55 : ∀ r c, v55 (ix2 r c) = infN 8 (fun i => infN 21 (p i) c) r) (r c : Fin 1044) :
    k0_pay8 v45 v54 v55 (ix2 r c) = slope p r c := by
  pointwise [k0_pay8]
  simp only [h45, pay7_at h54 h55, rows_two, supN_four, supN_eight, supN_sixteen, supN_window]
  rw [slope, one_eq]
  rfl

/-- The offset of each window. -/
theorem pay9_at (h45 : ∀ r c, v45 (ix2 r c) = supN 21 (p r) c)
    (h54 : ∀ r c, v54 (ix2 r c) = infN 8 (fun i => infN 21 (p i) c) r)
    (h55 : ∀ r c, v55 (ix2 r c) = infN 8 (fun i => infN 21 (p i) c) r) (r c : Fin 1044) :
    k0_pay9 v45 v54 v55 (ix2 r c) = offset p r c := by
  pointwise [k0_pay9]
  simp only [pay8_at h45 h54 h55, pay7_at h54 h55]
  rfl

end Cert.Proof

end
-- ==== Proof.Sums.lean ====
/- What the kernel's block computes next: the two bands of ones, and the window sums that the products with them give. -/
module

public import proofs.«01_k».proof.Proof.Extremes

@[expose] public section

set_option maxRecDepth 16384

noncomputable section

namespace Cert.Proof

open Idealize.ShloMosaic Idealize.SL.Sem
open Cert.KernelIdeal Cert.KernelIdeal.Gen

/-- The conversion of a test's outcome to a number is one or zero. -/
theorem mask_value {p : Prop} [Decidable p] {b : BitVec 1} (h : b = if p then 1#1 else 0#1) :
    Scalar.sitofp (F := Ideal) .f32 (BitVec.setWidth 32 b) = if p then (1 : EReal) else 0 := by
  subst h
  rw [Ideal.scalar_sitofp_def]
  split_ifs <;> simp

/-- The test that a word, read with its sign, lies between 0 and 20. -/
theorem in_range (w : BitVec 32) :
    IntOp.andi (IntOp.cmpi .sge w 0#32) (IntOp.cmpi .sle w 20#32) = if 0 ≤ w.toInt ∧ w.toInt ≤ 20 then 1#1 else 0#1 := by
  simp only [IntOp.andi, IntOp.cmpi, BitVec.sle]
  by_cases h : 0 ≤ w.toInt <;> by_cases k : w.toInt ≤ 20 <;> simp [h, k]

/-- The test that a difference of small numbers lies between 0 and 20. -/
theorem in_band {a b : ℕ} (ha : a < 512) (hb : b < 512) :
    IntOp.andi (IntOp.cmpi .sge (IntOp.subi (BitVec.ofNat 32 a) (BitVec.ofNat 32 b)) 0#32)
      (IntOp.cmpi .sle (IntOp.subi (BitVec.ofNat 32 a) (BitVec.ofNat 32 b)) 20#32)
      = if b ≤ a ∧ a ≤ b + 20 then 1#1 else 0#1 := by
  have h : (IntOp.subi (BitVec.ofNat 32 a) (BitVec.ofNat 32 b)).toInt = (a : ℤ) - b := by
    rw [IntOp.subi, BitVec.toInt_eq_toNat_cond, BitVec.toNat_sub, BitVec.toNat_ofNat, BitVec.toNat_ofNat]
    omega
  rw [in_range, h]
  exact if_congr (by omega) rfl rfl

/-- The same test for a place of the 20 after a block's own. -/
theorem in_band_tail {x c : ℕ} (hx : x < 20) (hc : c < 256) :
    IntOp.andi (IntOp.cmpi .sge (IntOp.subi (IntOp.addi 256#32 (BitVec.ofNat 32 x)) (BitVec.ofNat 32 c)) 0#32)
      (IntOp.cmpi .sle (IntOp.subi (IntOp.addi 256#32 (BitVec.ofNat 32 x)) (BitVec.ofNat 32 c)) 20#32)
      = if 256 + x ≤ c + 20 then 1#1 else 0#1 := by
  rw [show IntOp.addi 256#32 (BitVec.ofNat 32 x) = BitVec.ofNat 32 (256 + x) from (BitVec.ofNat_add 256 x).symm,
    in_band (by omega) (by omega)]
  simp only [show c ≤ 256 + x by omega, true_and]

/-- The band of ones of a block's own 256 places: place `x` counts for column `c` when `c ≤ x ≤ c + 20`. -/
theorem pay10_at (x c : Fin 256) :
    k0_pay10 (F := Ideal) (ix2 x c) = if (c : ℕ) ≤ x ∧ (x : ℕ) ≤ c + 20 then 1 else 0 := by
  pointwise [k0_pay10]
  exact mask_value (in_band (by omega) (by omega))

/-- The band of ones of the 20 places after a block. -/
theorem pay11_at (x : Fin 20) (c : Fin 256) :
    k0_pay11 (F := Ideal) (ix2 x c) = if 256 + (x : ℕ) ≤ c + 20 then 1 else 0 := by
  pointwise [k0_pay11]
  exact mask_value (in_band_tail x.isLt c.isLt)

/-- The first band, with rows and columns exchanged. -/
theorem pay13_at (r x : Fin 256) :
    k0_pay13 (F := Ideal) k0_pay12 (ix2 r x) = if (r : ℕ) ≤ x ∧ (x : ℕ) ≤ r + 20 then 1 else 0 := by
  pointwise [k0_pay13, k0_pay12]
  exact mask_value (in_band (by omega) (by omega))

/-- The second band, with rows and columns exchanged. -/
theorem pay14_at (r : Fin 256) (x : Fin 20) :
    k0_pay14 (F := Ideal) (ix2 r x) = if 256 + (x : ℕ) ≤ r + 20 then 1 else 0 := by
  pointwise [k0_pay14]
  exact mask_value (in_band_tail x.isLt r.isLt)

section columns

variable {v : FVec Ideal S1044x1044 .f32} {m : FVec Ideal S256x256 .bf16} {n : FVec Ideal S20x256 .bf16} {f : ℕ → ℕ → EReal}

/-- The sums of 21 neighbours along each row, of the slopes. -/
theorem pay23_at (hf : ∀ i j, IsReal (f i j)) (hv : ∀ r c, v (ix2 r c) = f r c)
    (hm : ∀ x c, m (ix2 x c) = if (c : ℕ) ≤ x ∧ (x : ℕ) ≤ c + 20 then 1 else 0)
    (hn : ∀ x c, n (ix2 x c) = if 256 + (x : ℕ) ≤ c + 20 then 1 else 0) (r : Fin 1044) (c : Fin 1024) :
    k0_pay23 (k0_pay15 v) (k0_pay16 v) (k0_pay17 m) (k0_pay18 n) (k0_pay19 v m n) (k0_pay20 v m n) (k0_pay21 v)
      (k0_pay22 v) (ix2 r c) = sumN (f r) c := by
  pointwise [k0_pay23, k0_pay15, k0_pay16, k0_pay17, k0_pay18, k0_pay19, k0_pay20, k0_pay21, k0_pay22]
  simp only [hv, hm, hn]
  exact bands (f r) (hf r) c.isLt

/-- The sums of 21 neighbours along each row, of the offsets. -/
theorem pay33_at (hf : ∀ i j, IsReal (f i j)) (hv : ∀ r c, v (ix2 r c) = f r c)
    (hm : ∀ x c, m (ix2 x c) = if (c : ℕ) ≤ x ∧ (x : ℕ) ≤ c + 20 then 1 else 0)
    (hn : ∀ x c, n (ix2 x c) = if 256 + (x : ℕ) ≤ c + 20 then 1 else 0) (r : Fin 1044) (c : Fin 1024) :
    k0_pay33 (k0_pay25 v) (k0_pay26 m) (k0_pay27 n) (k0_pay28 v m n) (k0_pay29 v m n) (k0_pay30 v m n) (k0_pay31 v)
      (k0_pay32 v) (ix2 r c) = sumN (f r) c := by
  pointwise [k0_pay33, k0_pay24, k0_pay25, k0_pay26, k0_pay27, k0_pay28, k0_pay29, k0_pay30, k0_pay31, k0_pay32]
  simp only [hv, hm, hn]
  exact bands (f r) (hf r) c.isLt

end columns

section rows

variable {m : FVec Ideal S256x256 .bf16} {n : FVec Ideal S256x20 .bf16} {f : ℕ → ℕ → EReal}

/-- The sums of 21 neighbours along each column, of the slopes' sums. -/
theorem pay34_at {v : FVec Ideal S1044x1024 .f32} (hf : ∀ i j, IsReal (f i j)) (hv : ∀ r c, v (ix2 r c) = f r c)
    (hm : ∀ r x, m (ix2 r x) = if (r : ℕ) ≤ x ∧ (x : ℕ) ≤ r + 20 then 1 else 0)
    (hn : ∀ r x, n (ix2 r x) = if 256 + (x : ℕ) ≤ r + 20 then 1 else 0) (r c : Fin 1024) :
    k0_pay34 m n v (ix2 r c) = sumN (fun i => f i c) r := by
  pointwise [k0_pay34]
  simp only [hv, hm, hn, mul_comm (ite _ _ _)]
  exact bands (fun i => f i c) (fun i => hf i c) r.isLt

/-- The pixel times the slopes' sum less the sum of the offsets, over the window's area. -/
theorem pay36_at {v1 s : FVec Ideal S1024x1024 .f32} {v : FVec Ideal S1044x1024 .f32} {w : FVec Ideal S1044x1024 .bf16}
    (hf : ∀ i j, IsReal (f i j)) (hv : ∀ r c, v (ix2 r c) = f r c) (hw : ∀ r c, w (ix2 r c) = f r c)
    (hm : ∀ r x, m (ix2 r x) = if (r : ℕ) ≤ x ∧ (x : ℕ) ≤ r + 20 then 1 else 0)
    (hn : ∀ r x, n (ix2 r x) = if 256 + (x : ℕ) ≤ r + 20 then 1 else 0) (r c : Fin 1024) :
    k0_pay36 v1 m n v s w (ix2 r c) = (v1 (ix2 r c) * s (ix2 r c) - sumN (fun i => f i c) r) * invArea := by
  rw [← bands (fun i => f i c) (fun i => hf i c) r.isLt]
  pointwise [k0_pay36]
  simp only [hv, hw, hm, hn, mul_comm (ite _ _ _)]
  rfl

end rows

end Cert.Proof

end
-- ==== Proof.Block.lean ====
/- What one block of the kernel writes. -/
module

public import proofs.«01_k».proof.Proof.Gen.KernelIdeal.Frame
public import proofs.«01_k».proof.Proof.Sums
public import Idealize.ShloMosaic.Lib.Claim

@[expose] public section

set_option maxRecDepth 16384

noncomputable section

namespace Cert.Proof

open Idealize.ShloMosaic Idealize.SL.Sem
open Cert.KernelIdeal Cert.KernelIdeal.Gen

/-- The block is read and written from offset zero. -/
theorem offsets3_zero : (![0, 0, 0] : Fin 3 → ℕ) = fun _ => 0 := by decide

/-- Reading the whole block gives the block. -/
theorem ld_block (x : Vec Ideal S1x1024x1024 .f32) : View.ld (Val := Elt Ideal) x r0_0 = x :=
  View.ld_unit_zero offsets3_zero _ x

variable (x : Vec Ideal S1x1024x1024 .f32)

/-- The block's slopes are those of its padded plane. -/
theorem slope_block (r c : Fin 1044) : k0_pay40 x (ix2 r c) = slope (edge (blockPlane x)) r c := by
  unfold k0_pay40 k0_pay37 k0_pay38 k0_pay39
  rw [ld_block]
  exact pay8_at (pay4_at x) (pay5_at x) (pay6_at x) r c

/-- The block's offsets are those of its padded plane. -/
theorem offset_block (r c : Fin 1044) : k0_pay41 x (ix2 r c) = offset (edge (blockPlane x)) r c := by
  unfold k0_pay41 k0_pay37 k0_pay38 k0_pay39
  rw [ld_block]
  exact pay9_at (pay4_at x) (pay5_at x) (pay6_at x) r c

/-- A sum of 21 neighbours in a row of real numbers is a real number. -/
theorem sumN_real {f : ℕ → ℕ → EReal} (h : ∀ i j, IsReal (f i j)) (i j : ℕ) : IsReal (sumN (f i) j) :=
  IsReal.sum _ fun _ => h _ _

/-- The plane that the block holds, at an index. -/
theorem pay2_at (r c : Fin 1024) : k0_pay2 x (ix2 r c) = blockPlane x r c := by
  pointwise [k0_pay2]
  rfl

/-- The block that the kernel writes holds the smoothed normalization of the plane that it read. -/
theorem block_at (r c : Fin 1024) : out0_1 x (ix3 0 r c) = normPlane (blockPlane x) r c := by
  have hS : ∀ r c, k0_pay33 (k0_pay46 x) (k0_pay47 x) (k0_pay48 x) (k0_pay49 x) (k0_pay50 x) (k0_pay51 x) (k0_pay52 x)
      (k0_pay53 x) (ix2 r c) = sumN (offset (edge (blockPlane x)) r) c :=
    pay33_at (offset_real _) (offset_block x) pay10_at pay11_at
  have hT : ∀ r c, k0_pay35 (k0_pay46 x) (k0_pay47 x) (k0_pay48 x) (k0_pay49 x) (k0_pay50 x) (k0_pay51 x) (k0_pay52 x)
      (k0_pay53 x) (ix2 r c) = sumN (offset (edge (blockPlane x)) r) c := fun r c => by
    pointwise [k0_pay35]
    exact hS r c
  have hA := pay23_at (v := k0_pay40 x) (m := k0_pay42 x) (n := k0_pay43 x) (slope_real _) (slope_block x) pay10_at pay11_at
  rw [out0_1, View.canon_unit_zero offsets3_zero]
  pointwise [k0_pay1]
  refine (pay36_at (sumN_real (offset_real (edge (blockPlane x)))) hS hT pay13_at pay14_at r c).trans ?_
  rw [show k0_pay34 (k0_pay44 x) (k0_pay45 x) _ (ix2 r c) = _ from
    pay34_at (sumN_real (slope_real (edge (blockPlane x)))) hA pay13_at pay14_at r c, ld_block, pay2_at]
  exact scale_last _ (winSum_real (slope_real _) _ _) (winSum_real (offset_real _) _ _) invArea_real

end Cert.Proof

end
-- ==== Proof.Array.lean ====
/- What the kernel's region leaves in its result array, and what @main's two reshapes make of it. -/
module

public import proofs.«01_k».proof.Proof.Block
public import Idealize.ShloMosaic.Lib.StableHlo.ReadAt

@[expose] public section

set_option maxRecDepth 16384

noncomputable section

namespace Cert.Proof

open Idealize.ShloMosaic Idealize.ShloMosaic.TcCoe Idealize.SL Idealize.SL.Sem
open Cert.KernelIdeal Cert.KernelIdeal.Gen

/-- The smoothed normalization of each of the 48 planes. -/
def normAll (y : Vec Ideal S48x1024x1024 .f32) : Vec Ideal S48x1024x1024 .f32 :=
  fun i => normPlane (fun h w => y (ix3 (i 0) h w)) (i 1) (i 2)

variable (m : (ℓ : Loc nD τ sig) → Buf (Elt Ideal) ℓ)

/-- Grid point `t` reads plane `t`. -/
theorem index_in : ∀ t : Fin cfg0.N, win0_0.index t (0 : Fin 3) = t.val ∧ win0_0.index t (1 : Fin 3) = 0 ∧ win0_0.index t (2 : Fin 3) = 0 :=
  (by decide +kernel : ∀ t : Fin grid0.N, _)
/-- Grid point `t` writes plane `t`. -/
theorem index_out : ∀ t : Fin cfg0.N, win0_1.index t (0 : Fin 3) = t.val ∧ win0_1.index t (1 : Fin 3) = 0 ∧ win0_1.index t (2 : Fin 3) = 0 :=
  (by decide +kernel : ∀ t : Fin grid0.N, _)

/-- The plane of grid point `t`. -/
def planeOf (t : Fin cfg0.N) : Fin 48 := ⟨t.val, t.isLt.trans_eq (by decide +kernel)⟩

/-- Where the block that grid point `t` reads lies in the array. -/
theorem emb_in (t : Fin cfg0.N) (j : S1x1024x1024.Idx) : ((cfg0.win 0).blk t).view.emb j = ix3 (planeOf t) (j 1) (j 2) := by
  obtain ⟨e0, e1, e2⟩ := index_in t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 1024 + 1 * (j 1).val = (j 1).val; omega
  | ⟨2, _⟩ => show win0_0.index t (2 : Fin 3) * 1024 + 1 * (j 2).val = (j 2).val; omega

/-- Where the block that grid point `t` writes lies in the array. -/
theorem emb_out (t : Fin cfg0.N) (j : S1x1024x1024.Idx) : ((cfg0.win 1).blk t).view.emb j = ix3 (planeOf t) (j 1) (j 2) := by
  obtain ⟨e0, e1, e2⟩ := index_out t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 1024 + 1 * (j 1).val = (j 1).val; omega
  | ⟨2, _⟩ => show win0_1.index t (2 : Fin 3) * 1024 + 1 * (j 2).val = (j 2).val; omega

/-- The block that grid point `t` reads is plane `t` of the array that the region finds. -/
theorem iblk_plane (c : Dev nD) (t : Fin cfg0.N) :
    blockPlane (iblk m c 0 t) = fun h w => V m c main_v0 (ix3 (planeOf t) h w) := by
  funext h w
  show V m c main_v0 (((cfg0.win 0).blk t).view.emb (ix3 0 h w)) = _
  rw [emb_in]
  rfl

/-- What grid point `t` writes back is its block of the normalized planes. -/
theorem flushed_eq (c : Dev nD) (t : Fin cfg0.N) :
    (dats m 0 c).flushed 1 t = ((cfg0.win 1).blk t).view.read (Elt Ideal) (normAll (V m c main_v0)) := by
  funext j
  show (dats m 0 c).after 1 t j = normAll (V m c main_v0) (((cfg0.win 1).blk t).view.emb j)
  rw [after0_1, emb_out]
  have h0 : j = ix3 (0 : Fin 1) (j 1) (j 2) := by
    funext a
    match a with
    | ⟨0, _⟩ => exact Subsingleton.elim (α := Fin 1) _ _
    | ⟨1, _⟩ => rfl
    | ⟨2, _⟩ => rfl
  refine (congrArg (out0_1 (iblk m c 0 t)) h0).trans ((block_at (iblk m c 0 t) (j 1) (j 2)).trans ?_)
  rw [iblk_plane]
  rfl

/-- Every index of the result array lies in the block of its plane's grid point. -/
theorem covered (i : S48x1024x1024.Idx) : ∃ t : Fin cfg0.N, (cfg0.win 1).flush t = true ∧ i ∈ ((cfg0.win 1).blk t).view.set := by
  refine ⟨⟨(i 0).val, (i 0).isLt.trans_eq (by decide +kernel)⟩, flush0_1 _, ?_⟩
  have h := ((cfg0.win 1).blk ⟨(i 0).val, (i 0).isLt.trans_eq (by decide +kernel)⟩).view.emb_mem_set (ix3 (0 : Fin 1) (i 1) (i 2))
  rw [emb_out] at h
  exact (congrArg (· ∈ _) (eq_ix3 i)).mpr h

/-- The region's result array after the run: the normalized planes of the array that it finds. -/
theorem region_eq (c : Dev nD) : (dats m 0 c).arrAt 1 cfg0.N = normAll (V m c main_v0) :=
  (dats m 0 c).arrAt_eq_of_cover 1 _ (fun t _ => flushed_eq m c t) covered

/-- The image reshaped to 48 planes is what the region finds. -/
theorem entry_eq (c : Dev nD) : V m c main_v0
    = shapeCast S48x1024x1024 (m ((c : Thread nD τ).loc main_arg0)) shapeCasts_S16x3x1024x1024_S48x1024x1024 := by
  unfold V V0
  after_reads_simp
  rfl

/-- What @main returns: the region's result array, reshaped to the image. -/
theorem result_eq (c : Dev nD) : Pipeline.afterTail₀ cfgs (dats m) 0 (V0 m) [hostOps1] c main_v2
    = shapeCast S16x3x1024x1024 (normAll (V m c main_v0)) shapeCasts_S48x1024x1024_S16x3x1024x1024 := by
  unfold Pipeline.afterTail₀
  rw [← region_eq]
  after_reads_simp
  rw [show Pipeline.withArrays (cfgs 0).spec c (V0 m c) (fun w => (dats m 0 c).arrAt w (cfgs 0).N) (Proc.tc.devRef main_v1)
      = (dats m 0 c).arrAt 1 cfg0.N from
    Pipeline.withArrays_arr (cfgs 0).spec (by decide) c (V0 m c) (fun w => (dats m 0 c).arrAt w (cfgs 0).N) 1]
  rfl

/-- Plane `3 b + c` of the 48 is channel `c` of image `b`. -/
def planeAt (b : Fin 16) (c : Fin 3) : Fin 48 := ⟨3 * b.val + c.val, by omega⟩

/-- The 48 planes reshaped to the image, read at an index. -/
theorem unstack_at (y : Vec Ideal S48x1024x1024 .f32) (b : Fin 16) (c : Fin 3) (h w : Fin 1024) :
    shapeCast S16x3x1024x1024 y shapeCasts_S48x1024x1024_S16x3x1024x1024 (ix4 b c h w) = y (ix3 (planeAt b c) h w) := by
  refine shapeCast_apply _ _ _ _ ?_
  rw [Shape.rowMajor_val_three, Shape.rowMajor_val_four]
  show ((3 * b.val + c.val) * 1024 + h.val) * 1024 + w.val = ((b.val * 3 + c.val) * 1024 + h.val) * 1024 + w.val
  omega

/-- The image reshaped to 48 planes, read at an index. -/
theorem stack_at (x : Vec Ideal S16x3x1024x1024 .f32) (b : Fin 16) (c : Fin 3) (h w : Fin 1024) :
    shapeCast S48x1024x1024 x shapeCasts_S16x3x1024x1024_S48x1024x1024 (ix3 (planeAt b c) h w) = x (ix4 b c h w) := by
  refine shapeCast_apply _ _ _ _ ?_
  rw [Shape.rowMajor_val_four, Shape.rowMajor_val_three]
  show ((b.val * 3 + c.val) * 1024 + h.val) * 1024 + w.val = ((3 * b.val + c.val) * 1024 + h.val) * 1024 + w.val
  omega

/-- What @main returns at an index: the smoothed normalization of that image's channel. -/
theorem result_at (d : Dev nD) (b : Fin 16) (c : Fin 3) (h w : Fin 1024) :
    Pipeline.afterTail₀ cfgs (dats m) 0 (V0 m) [hostOps1] d main_v2 (ix4 b c h w)
      = normPlane (fun i j => m ((d : Thread nD τ).loc main_arg0) (ix4 b c i j)) h w := by
  rw [result_eq]
  refine (unstack_at _ b c h w).trans ?_
  show normPlane (fun i j => V m d main_v0 (ix3 (planeAt b c) i j)) h w = _
  refine congrArg (fun p => normPlane p h w) ?_
  funext i j
  rw [entry_eq]
  exact stack_at _ b c i j

end Cert.Proof

end
-- ==== Proof.RefRun.lean ====
module
public import proofs.«01_k».proof.Defs
public import proofs.«01_k».proof.Proof.Gen.ReferenceIdeal
public import Idealize.ShloMosaic.Lib.Claim
public import Idealize.ShloMosaic.Lib.StableHlo
public import Idealize.ShloMosaic.Lib.StableHlo.ReadAt
public import Idealize.ShloMosaic.Lib.Quiescent
set_option maxRecDepth 16384
@[expose] public section
noncomputable section
namespace Cert.Proof
open Idealize.ShloMosaic Idealize.SL.Sem
open Cert.ReferenceIdeal Cert.ReferenceIdeal.Facts Cert.ReferenceIdeal.Gen
open StableHlo

/-- Three arrays laid end to end along one axis. -/
def cat3 {α : Type} {S0 S1 S2 : Shape} (S : Shape) (ax : Fin S.rank) (x : S0.Idx → α) (y : S1.Idx → α) (z : S2.Idx → α)
    (h : Shape.Concatenates [S0, S1, S2] S ax) : S.Idx → α :=
  concatenate S ax [⟨S0, x⟩, ⟨S1, y⟩, ⟨S2, z⟩] h

/-- A concatenation of three typed operands, read after the operation: the concatenation of what the operands held. -/
theorem concat3_read {τ : Topo} {sig : RefSig} {Val : EltTy → Type} {e : EltTy} {S0 S1 S2 S : Shape} (a : TRef sig ⟨S0, e⟩)
    (b : TRef sig ⟨S1, e⟩) (c : TRef sig ⟨S2, e⟩) (y : TRef sig ⟨S, e⟩) (ax : Fin S.rank)
    (h : Shape.Concatenates [S0, S1, S2] S ax) (V : Valuation τ sig Val) :
    (TRef.nary (Ts := ![⟨S0, e⟩, ⟨S1, e⟩, ⟨S2, e⟩]) (Fin.cons a (Fin.cons b (Fin.cons c (fun k => k.elim0)))) y
        (fun u => (concatenate S ax [⟨S0, (u 0 : (⟨S0, e⟩ : BufTy).Contents Val)⟩, ⟨S1, (u 1 : (⟨S1, e⟩ : BufTy).Contents Val)⟩,
          ⟨S2, (u 2 : (⟨S2, e⟩ : BufTy).Contents Val)⟩] h : (⟨S, e⟩ : BufTy).Contents Val))).result V (no_index (Proc.devRef .tc y.ref))
      = y.toBuf (cat3 S ax (a.ofBuf (V (Proc.devRef .tc a.ref))) (b.ofBuf (V (Proc.devRef .tc b.ref)))
          (c.ofBuf (V (Proc.devRef .tc c.ref))) h : (⟨S, e⟩ : BufTy).Contents Val) :=
  nary_result' ..

/-- The image, edge-padded by 20 on each side of its two last axes, as the reference writes it: nothing is added on the first two. -/
def padT (x : FVec Ideal S16x3x1024x1024 .f32) : FVec Ideal S16x3x1064x1064 .f32 :=
  let x6 : FVec Ideal S16x3x1024x1024 .f32 := cat3 S16x3x1024x1024 0
    (shapeCast S0x3x1024x1024 (broadcastInDim S1x0x3x1024x1024 ![0, 2, 3, 4] bcast_S1x3x1024x1024_S1x0x3x1024x1024_0_2_3_4 (extractStridedSlice S1x3x1024x1024 ![0, 0, 0, 0] x slices_S16x3x1024x1024_S1x3x1024x1024_0_0_0_0)) shapeCasts_S1x0x3x1024x1024_S0x3x1024x1024)
    x
    (shapeCast S0x3x1024x1024 (broadcastInDim S1x0x3x1024x1024 ![0, 2, 3, 4] bcast_S1x3x1024x1024_S1x0x3x1024x1024_0_2_3_4 (extractStridedSlice S1x3x1024x1024 ![15, 0, 0, 0] x slices_S16x3x1024x1024_S1x3x1024x1024_15_0_0_0)) shapeCasts_S1x0x3x1024x1024_S0x3x1024x1024)
    concatenates_S0x3x1024x1024_S16x3x1024x1024_S0x3x1024x1024_S16x3x1024x1024_d0
  let x13 : FVec Ideal S16x3x1024x1024 .f32 := cat3 S16x3x1024x1024 1
    (shapeCast S16x0x1024x1024 (broadcastInDim S16x1x0x1024x1024 ![0, 1, 3, 4] bcast_S16x1x1024x1024_S16x1x0x1024x1024_0_1_3_4 (extractStridedSlice S16x1x1024x1024 ![0, 0, 0, 0] x6 slices_S16x3x1024x1024_S16x1x1024x1024_0_0_0_0)) shapeCasts_S16x1x0x1024x1024_S16x0x1024x1024)
    x6
    (shapeCast S16x0x1024x1024 (broadcastInDim S16x1x0x1024x1024 ![0, 1, 3, 4] bcast_S16x1x1024x1024_S16x1x0x1024x1024_0_1_3_4 (extractStridedSlice S16x1x1024x1024 ![0, 2, 0, 0] x6 slices_S16x3x1024x1024_S16x1x1024x1024_0_2_0_0)) shapeCasts_S16x1x0x1024x1024_S16x0x1024x1024)
    concatenates_S16x0x1024x1024_S16x3x1024x1024_S16x0x1024x1024_S16x3x1024x1024_d1
  let x20 : FVec Ideal S16x3x1064x1024 .f32 := cat3 S16x3x1064x1024 2
    (shapeCast S16x3x20x1024 (broadcastInDim S16x3x1x20x1024 ![0, 1, 2, 4] bcast_S16x3x1x1024_S16x3x1x20x1024_0_1_2_4 (extractStridedSlice S16x3x1x1024 ![0, 0, 0, 0] x13 slices_S16x3x1024x1024_S16x3x1x1024_0_0_0_0)) shapeCasts_S16x3x1x20x1024_S16x3x20x1024)
    x13
    (shapeCast S16x3x20x1024 (broadcastInDim S16x3x1x20x1024 ![0, 1, 2, 4] bcast_S16x3x1x1024_S16x3x1x20x1024_0_1_2_4 (extractStridedSlice S16x3x1x1024 ![0, 0, 1023, 0] x13 slices_S16x3x1024x1024_S16x3x1x1024_0_0_1023_0)) shapeCasts_S16x3x1x20x1024_S16x3x20x1024)
    concatenates_S16x3x20x1024_S16x3x1024x1024_S16x3x20x1024_S16x3x1064x1024_d2
  cat3 S16x3x1064x1064 3
    (shapeCast S16x3x1064x20 (broadcastInDim S16x3x1064x1x20 ![0, 1, 2, 3] bcast_S16x3x1064x1_S16x3x1064x1x20_0_1_2_3 (extractStridedSlice S16x3x1064x1 ![0, 0, 0, 0] x20 slices_S16x3x1064x1024_S16x3x1064x1_0_0_0_0)) shapeCasts_S16x3x1064x1x20_S16x3x1064x20)
    x20
    (shapeCast S16x3x1064x20 (broadcastInDim S16x3x1064x1x20 ![0, 1, 2, 3] bcast_S16x3x1064x1_S16x3x1064x1x20_0_1_2_3 (extractStridedSlice S16x3x1064x1 ![0, 0, 0, 1023] x20 slices_S16x3x1064x1024_S16x3x1064x1_0_0_0_1023)) shapeCasts_S16x3x1064x1x20_S16x3x1064x20)
    concatenates_S16x3x1064x20_S16x3x1064x1024_S16x3x1064x20_S16x3x1064x1064_d3

/-- The minimum over each window of 21 × 21 pixels. -/
def mnT (p : FVec Ideal S16x3x1064x1064 .f32) : FVec Ideal S16x3x1044x1044 .f32 :=
  Host.reduceWindow FloatOps.minimumf ![1, 1, 21, 21] ![1, 1, 1, 1] ![0, 0, 0, 0] ![0, 0, 0, 0] p
    (broadcastInDim S_ ![] bcast_S_S_ (constant S_ .f32 0x7F800000#32 : FVec Ideal S_ .f32))
    reduceWindows_S16x3x1064x1064_S16x3x1044x1044_w1s1p0_0_w1s1p0_0_w21s1p0_0_w21s1p0_0 h_S_

/-- The maximum over each window of 21 × 21 pixels. -/
def mxT (p : FVec Ideal S16x3x1064x1064 .f32) : FVec Ideal S16x3x1044x1044 .f32 :=
  Host.reduceWindow FloatOps.maximumf ![1, 1, 21, 21] ![1, 1, 1, 1] ![0, 0, 0, 0] ![0, 0, 0, 0] p
    (broadcastInDim S_ ![] bcast_S_S_ (constant S_ .f32 0xFF800000#32 : FVec Ideal S_ .f32))
    reduceWindows_S16x3x1064x1064_S16x3x1044x1044_w1s1p0_0_w1s1p0_0_w21s1p0_0_w21s1p0_0 h_S_

/-- The slope `1 / (max - min + eps)` of each window. -/
def slopeT (p : FVec Ideal S16x3x1064x1064 .f32) : FVec Ideal S16x3x1044x1044 .f32 :=
  Host.divf (broadcastInDim S16x3x1044x1044 ![] bcast_S_S16x3x1044x1044 (constant S_ .f32 0x3F800000#32 : FVec Ideal S_ .f32))
    (addf (subf (mxT p) (mnT p)) (broadcastInDim S16x3x1044x1044 ![] bcast_S_S16x3x1044x1044 (constant S_ .f32 0x322BCC77#32 : FVec Ideal S_ .f32)))

/-- The average over each window of 21 × 21 windows: their sum times `1 / 441`. -/
def avgT (a : FVec Ideal S16x3x1044x1044 .f32) : FVec Ideal S16x3x1024x1024 .f32 :=
  mulf (Host.reduceWindowAdd ![1, 1, 21, 21] ![1, 1, 1, 1] ![0, 0, 0, 0] ![0, 0, 0, 0] a
      (broadcastInDim S_ ![] bcast_S_S_ (constant S_ .f32 0x00000000#32 : FVec Ideal S_ .f32))
      reduceWindows_S16x3x1044x1044_S16x3x1024x1024_w1s1p0_0_w1s1p0_0_w21s1p0_0_w21s1p0_0 h_S_)
    (broadcastInDim S16x3x1024x1024 ![] bcast_S_S16x3x1024x1024 (constant S_ .f32 0x3B149B93#32 : FVec Ideal S_ .f32))

/-- What the reference returns for the image `x`. -/
def refT (x : FVec Ideal S16x3x1024x1024 .f32) : FVec Ideal S16x3x1024x1024 .f32 :=
  subf (mulf x (avgT (slopeT (padT x)))) (avgT (mulf (mnT (padT x)) (slopeT (padT x))))

set_option maxHeartbeats 2000000 in
/-- The reference ends with `refT` of its argument in its result, its argument as it was, and every counter at zero. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem ((c.tc : Thread nD τ).loc main_v20) = refT (m ((c.tc : Thread nD τ).loc main_arg0))
        ∧ r.2.mem ((c.tc : Thread nD τ).loc main_arg0) = m ((c.tc : Thread nD τ).loc main_arg0))
      ∧ r.2.sem = fun _ => 0 := by
  refine θ_run_mono (run_hlo _ _ (by hlo_seq) (by decide) (by decide) (by simp)
      (by intro _ h; (repeat (cases h with | head => rfl | tail _ h => ?_)); exact nomatch h) m g) ?_
  intro r h
  refine ⟨fun c => ⟨?_, ?_⟩, sem_eq_zero_of_no_sems (by decide) _⟩
  · rw [h]
    after_reads_simp [↓ concat3_read]
    simp only [TRef.toBuf, TRef.ofBuf, cast_cast, cast_eq]
    simp only [refT, avgT, slopeT, mnT, mxT, padT]
    rfl
  · rw [h]
    after_reads_simp

end Cert.Proof
end
-- ==== Proof.RefWindow.lean ====
/- The reference's reductions over windows of 21 × 21 pixels, read at an index. -/
module

public import proofs.«01_k».proof.Proof.Algebra
public import Idealize.ShloMosaic.Lib.Pointwise

@[expose] public section

noncomputable section

namespace Cert.Proof

open Idealize.ShloMosaic Finset

/-- The shape of one window. -/
abbrev winShape : Shape := ⟨4, ![1, 1, 21, 21]⟩

/-- A reduction over the windows of a plane visits the window's places in row-major order. -/
theorem window_fold {A B H W H' W' : ℕ} {u : Shape} (f : EReal → EReal → EReal) (x : (⟨4, ![A, B, H, W]⟩ : Shape).Idx → EReal)
    (init : u.Idx → EReal) (hu : 0 < u.numel)
    (h : Shape.ReduceWindows ⟨4, ![A, B, H, W]⟩ ![1, 1, 21, 21] ![1, 1, 1, 1] ![0, 0, 0, 0] ![0, 0, 0, 0] ⟨4, ![A, B, H', W']⟩)
    (hH : H' + 20 ≤ H) (hW : W' + 20 ≤ W) {p : ℕ → ℕ → EReal} (b : Fin A) (c : Fin B)
    (hp : ∀ (r : Fin H) (k : Fin W), x (ix4 b c r k) = p r k) (i : Fin H') (j : Fin W') :
    Host.reduceWindow f ![1, 1, 21, 21] ![1, 1, 1, 1] ![0, 0, 0, 0] ![0, 0, 0, 0] x init h hu (ix4 b c i j)
      = (List.finRange winShape.numel).foldl
        (fun r n => f r (p (i + (winShape.rowMajor.symm n 2).val) (j + (winShape.rowMajor.symm n 3).val)))
        (init (Shape.Idx.first hu)) := by
  unfold Host.reduceWindow
  refine congrArg (fun F => List.foldl F (init (Shape.Idx.first hu)) (List.finRange winShape.numel)) ?_
  funext r n
  refine congrArg (f r) ?_
  let q : winShape.Idx := winShape.rowMajor.symm n
  have h0 : (q 0).val < 1 := (q 0).isLt
  have h1 : (q 1).val < 1 := (q 1).isLt
  have h2 : (q 2).val < 21 := (q 2).isLt
  have h3 : (q 3).val < 21 := (q 3).isLt
  have hb := b.isLt
  have hc := c.isLt
  have hi := i.isLt
  have hj := j.isLt
  have hin : ∀ a : Fin 4, (![0, 0, 0, 0] : Fin 4 → ℕ) a ≤ (ix4 b c i j a).val * (![1, 1, 1, 1] : Fin 4 → ℕ) a + (q a).val
      ∧ (ix4 b c i j a).val * (![1, 1, 1, 1] : Fin 4 → ℕ) a + (q a).val - (![0, 0, 0, 0] : Fin 4 → ℕ) a < (![A, B, H, W] : Fin 4 → ℕ) a := by
    intro a
    match a with
    | ⟨0, _⟩ => exact ⟨Nat.zero_le _, (show b.val * 1 + (q 0).val - 0 < A by omega)⟩
    | ⟨1, _⟩ => exact ⟨Nat.zero_le _, (show c.val * 1 + (q 1).val - 0 < B by omega)⟩
    | ⟨2, _⟩ => exact ⟨Nat.zero_le _, (show i.val * 1 + (q 2).val - 0 < H by omega)⟩
    | ⟨3, _⟩ => exact ⟨Nat.zero_le _, (show j.val * 1 + (q 3).val - 0 < W by omega)⟩
  refine (dif_pos hin).trans (Eq.trans (congrArg x ?_) (hp ⟨i + (q 2).val, by omega⟩ ⟨j + (q 3).val, by omega⟩))
  refine (funext fun a => Fin.ext ?_)
  match a with
  | ⟨0, _⟩ => exact (show b.val * 1 + (q 0).val - 0 = b.val by omega)
  | ⟨1, _⟩ => exact (show c.val * 1 + (q 1).val - 0 = c.val by omega)
  | ⟨2, _⟩ => exact (show i.val * 1 + (q 2).val - 0 = i.val + (q 2).val by omega)
  | ⟨3, _⟩ => exact (show j.val * 1 + (q 3).val - 0 = j.val + (q 3).val by omega)

/-- A left fold of sums from zero over all places is the sum. -/
theorem foldl_add {N : ℕ} (g : Fin N → EReal) : (List.finRange N).foldl (fun r n => r + g n) 0 = ∑ n, g n := by
  rw [Fin.sum_univ_def, List.sum_eq_foldl, List.foldl_map]

/-- A left fold of minima from the top over all places is the least value. -/
theorem foldl_min {ι : Type} (l : List ι) (g : ι → EReal) (v : EReal) (y : EReal) :
    y ≤ l.foldl (fun r n => min r (g n)) v ↔ y ≤ v ∧ ∀ n ∈ l, y ≤ g n := by
  induction l generalizing v with
  | nil => simp
  | cons a l ih => simp [ih, and_assoc]

/-- A left fold of maxima from the bottom over all places is the greatest value. -/
theorem foldl_max {ι : Type} (l : List ι) (g : ι → EReal) (v : EReal) (y : EReal) :
    l.foldl (fun r n => max r (g n)) v ≤ y ↔ v ≤ y ∧ ∀ n ∈ l, g n ≤ y := by
  induction l generalizing v with
  | nil => simp
  | cons a l ih => simp [ih, and_assoc]

variable (p : ℕ → ℕ → EReal) (i j : ℕ)

/-- The place of a window that lies `s` rows and `t` columns from its start. -/
def place (s t : Fin 21) : Fin winShape.numel := winShape.rowMajor (ix4 (0 : Fin 1) (0 : Fin 1) s t)

/-- The row of the window's position placed at (s, t). -/
theorem place_row (s t : Fin 21) : (winShape.rowMajor.symm (place s t) 2).val = s := by rw [place, Equiv.symm_apply_apply]; rfl
/-- The column of the window's position placed at (s, t). -/
theorem place_col (s t : Fin 21) : (winShape.rowMajor.symm (place s t) 3).val = t := by rw [place, Equiv.symm_apply_apply]; rfl

/-- The fold of minima over a window is the window's least value. -/
theorem foldl_winMin :
    (List.finRange winShape.numel).foldl
        (fun r n => min r (p (i + (winShape.rowMajor.symm n 2).val) (j + (winShape.rowMajor.symm n 3).val))) ⊤
      = winMin p i j := by
  refine eq_of_forall_le_iff fun y => ?_
  rw [foldl_min, winMin, Finset.le_inf_iff]
  simp only [Finset.le_inf_iff, mem_range]
  constructor
  · rintro ⟨-, h⟩ s hs t ht
    have := h (place ⟨s, hs⟩ ⟨t, ht⟩) (List.mem_finRange _)
    rwa [place_row, place_col] at this
  · exact fun h => ⟨le_top, fun n _ => h _ (winShape.rowMajor.symm n 2).isLt _ (winShape.rowMajor.symm n 3).isLt⟩

/-- The fold of maxima over a window is the window's greatest value. -/
theorem foldl_winMax :
    (List.finRange winShape.numel).foldl
        (fun r n => max r (p (i + (winShape.rowMajor.symm n 2).val) (j + (winShape.rowMajor.symm n 3).val))) ⊥
      = winMax p i j := by
  refine eq_of_forall_ge_iff fun y => ?_
  rw [foldl_max, winMax, Finset.sup_le_iff]
  simp only [Finset.sup_le_iff, mem_range]
  constructor
  · rintro ⟨-, h⟩ s hs t ht
    have := h (place ⟨s, hs⟩ ⟨t, ht⟩) (List.mem_finRange _)
    rwa [place_row, place_col] at this
  · exact fun h => ⟨bot_le, fun n _ => h _ (winShape.rowMajor.symm n 2).isLt _ (winShape.rowMajor.symm n 3).isLt⟩

/-- The fold of sums over a window is the window's sum. -/
theorem foldl_winSum :
    (List.finRange winShape.numel).foldl
        (fun r n => r + p (i + (winShape.rowMajor.symm n 2).val) (j + (winShape.rowMajor.symm n 3).val)) 0
      = winSum p i j := by
  rw [foldl_add, Equiv.sum_comp winShape.rowMajor.symm (fun q : winShape.Idx => p (i + (q 2).val) (j + (q 3).val))]
  rw [sum_idx4]
  simp only [Fin.sum_univ_one]
  rw [winSum, ← Fin.sum_univ_eq_sum_range (fun s => ∑ t ∈ range 21, p (i + s) (j + t)) 21]
  refine Finset.sum_congr rfl fun s _ => ?_
  rw [← Fin.sum_univ_eq_sum_range (fun t => p (i + s) (j + t)) 21]
  rfl

end Cert.Proof

end
-- ==== Proof.RefValue.lean ====
/- What the reference returns, at an index. -/
module

public import proofs.«01_k».proof.Proof.RefRun
public import proofs.«01_k».proof.Proof.RefWindow

@[expose] public section

set_option maxRecDepth 16384

noncomputable section

namespace Cert.Proof

open Idealize.ShloMosaic Idealize.SL.Sem
open Cert.ReferenceIdeal Cert.ReferenceIdeal.Facts Cert.ReferenceIdeal.Gen

/-- The constant that starts the minimum is plus infinity. -/
theorem top_eq : Ideal.ofBits .f32 0x7F800000#32 = (⊤ : EReal) := by simp [Ideal.ofBits, Ideal.ieee]
/-- The constant that starts the maximum is minus infinity. -/
theorem bot_eq : Ideal.ofBits .f32 0xFF800000#32 = (⊥ : EReal) := by simp [Ideal.ofBits, Ideal.ieee]
/-- The constant that starts the sum is zero. -/
theorem zero_eq : Ideal.ofBits .f32 0x00000000#32 = (0 : EReal) := by simp [Ideal.ofBits, Ideal.ieee]

variable (x : FVec Ideal S16x3x1024x1024 .f32)

/-- Plane `(b, c)` of an image. -/
def imagePlane (x : FVec Ideal S16x3x1024x1024 .f32) (b : Fin 16) (c : Fin 3) (h w : Fin 1024) : EReal := x (ix4 b c h w)

/-- The padded image is each plane with its border pixels repeated. -/
theorem padT_at (b : Fin 16) (c : Fin 3) (r k : Fin 1064) : padT x (ix4 b c r k) = edge (imagePlane x b c) r k := by
  have hr := r.isLt
  have hk := k.isLt
  have e : ∀ m n : Fin 1024, (m : ℕ) = min ((r : ℕ) - 20) 1023 → (n : ℕ) = min ((k : ℕ) - 20) 1023 →
      x (ix4 b c m n) = edge (imagePlane x b c) r k := fun m n h l => by
    rw [show m = clampIdx (r - 20) from Fin.ext h, show n = clampIdx (k - 20) from Fin.ext l]; rfl
  pointwise [padT, cat3]
  simp only [Nat.not_lt_zero, dite_false]
  split_ifs
  all_goals
    refine e _ _ ?_ ?_
    all_goals first
      | (change 0 = _; omega)
      | (change 1023 = _; omega)
      | (change _ - 20 = _; omega)

variable {p : ℕ → ℕ → EReal} {b : Fin 16} {c : Fin 3}

/-- The minimum over each window of a plane. -/
theorem mnT_at {y : FVec Ideal S16x3x1064x1064 .f32} (hy : ∀ r k : Fin 1064, y (ix4 b c r k) = p r k) (i j : Fin 1044) :
    mnT y (ix4 b c i j) = winMin p i j := by
  refine (window_fold _ y _ h_S_ reduceWindows_S16x3x1064x1064_S16x3x1044x1044_w1s1p0_0_w1s1p0_0_w21s1p0_0_w21s1p0_0
    (by omega) (by omega) b c hy i j).trans ?_
  rw [show broadcastInDim S_ ![] bcast_S_S_ (constant S_ .f32 0x7F800000#32 : FVec Ideal S_ .f32) (Shape.Idx.first h_S_) = (⊤ : EReal)
    from top_eq]
  exact foldl_winMin p i j

/-- The maximum over each window of a plane. -/
theorem mxT_at {y : FVec Ideal S16x3x1064x1064 .f32} (hy : ∀ r k : Fin 1064, y (ix4 b c r k) = p r k) (i j : Fin 1044) :
    mxT y (ix4 b c i j) = winMax p i j := by
  refine (window_fold _ y _ h_S_ reduceWindows_S16x3x1064x1064_S16x3x1044x1044_w1s1p0_0_w1s1p0_0_w21s1p0_0_w21s1p0_0
    (by omega) (by omega) b c hy i j).trans ?_
  rw [show broadcastInDim S_ ![] bcast_S_S_ (constant S_ .f32 0xFF800000#32 : FVec Ideal S_ .f32) (Shape.Idx.first h_S_) = (⊥ : EReal)
    from bot_eq]
  exact foldl_winMax p i j

/-- The slope of each window of a plane. -/
theorem slopeT_at {y : FVec Ideal S16x3x1064x1064 .f32} (hy : ∀ r k : Fin 1064, y (ix4 b c r k) = p r k) (i j : Fin 1044) :
    slopeT y (ix4 b c i j) = slope p i j := by
  rw [slope, ← mnT_at hy, ← mxT_at hy, one_eq]
  pointwise [slopeT]
  rfl

/-- The average over each window of a plane. -/
theorem avgT_at {y : FVec Ideal S16x3x1044x1044 .f32} (hy : ∀ r k : Fin 1044, y (ix4 b c r k) = p r k) (i j : Fin 1024) :
    avgT y (ix4 b c i j) = winSum p i j * invArea := by
  refine congrArg (· * invArea) ?_
  refine (window_fold (· + ·) y _ (u := ⟨0, ![]⟩) (by decide)
    reduceWindows_S16x3x1044x1044_S16x3x1024x1024_w1s1p0_0_w1s1p0_0_w21s1p0_0_w21s1p0_0 (by omega) (by omega) b c hy i j).trans ?_
  rw [show broadcastInDim S_ ![] bcast_S_S_ (constant S_ .f32 0x00000000#32 : FVec Ideal S_ .f32) (Shape.Idx.first h_S_) = (0 : EReal)
    from zero_eq]
  exact foldl_winSum p i j

/-- The reference returns the smoothed normalization of each plane. -/
theorem refT_at (b : Fin 16) (c : Fin 3) (h w : Fin 1024) : refT x (ix4 b c h w) = normPlane (imagePlane x b c) h w := by
  have hp := padT_at x b c
  have hs := slopeT_at hp
  have ho : ∀ r k : Fin 1044, mulf (mnT (padT x)) (slopeT (padT x)) (ix4 b c r k) = offset (edge (imagePlane x b c)) r k := fun r k => by
    rw [offset, ← hs, ← mnT_at hp]
    rfl
  rw [normPlane, ← avgT_at hs, ← avgT_at ho]
  rfl

end Cert.Proof

end
-- ==== Proof.lean ====
/- The claims of the statement, assembled: the three programs' frames, the kernel's idealization, and the equality of
   the kernel's result and the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Array
public import proofs.«01_k».proof.Proof.RefValue
public import Idealize.ShloMosaic.Lib.Claim

@[expose] public section

set_option maxRecDepth 16384

noncomputable section

namespace Cert.Proof

open Idealize.ShloMosaic Idealize.ShloMosaic.TcCoe Idealize.SL.Sem

/-- The kernel's returned array is the reference's value of the same image. -/
theorem result_refT (m : (ℓ : Loc Cert.KernelIdeal.nD Cert.KernelIdeal.τ Cert.KernelIdeal.sig) → Buf (Elt Ideal) ℓ)
    (d : Dev Cert.KernelIdeal.nD) :
    Pipeline.afterTail₀ Cert.KernelIdeal.cfgs (Cert.KernelIdeal.Gen.dats m) 0 (Cert.KernelIdeal.Gen.V0 m)
        [Cert.KernelIdeal.Gen.hostOps1] d Cert.KernelIdeal.main_v2
      = refT (m ((d : Thread Cert.KernelIdeal.nD Cert.KernelIdeal.τ).loc Cert.KernelIdeal.main_arg0)) := by
  funext i
  rw [eq_ix4 i]
  exact (result_at m d (i 0) (i 1) (i 2) (i 3)).trans (refT_at _ (i 0) (i 1) (i 2) (i 3)).symm

/-- The reference runs to its end and leaves its argument as it was. -/
theorem frame_ref : @Cert.quiescent_ReferenceIdeal Cert.ReferenceIdeal.Gen.facts := by
  intro m g _
  refine θ_run_mono (ref_run m g) ?_
  intro r hr
  exact ⟨fun c => (hr.1 c).2, hr.2⟩

/-- From the same image, every run of the kernel and every run of the reference end with equal results. -/
theorem alg : @Cert.algebraic_KernelIdeal_ReferenceIdeal Cert.KernelIdeal.Gen.facts Cert.ReferenceIdeal.Gen.facts := by
  pair_intro
  · run_from Cert.KernelIdeal.Gen.run_main m g
    exact Cert.KernelIdeal.Gen.W_main_arg0 m (Cert.KernelIdeal.Gen.dats m) c
  · refine θ_run_mono (ref_run m' g') ?_
    intro r hr c
    refine ⟨?_, (hr.1 c).2⟩
    rw [(hr.1 c).1, hagree c]
    exact (result_refT m c).symm

/-- Every claim of the statement. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, alg⟩

end Cert.Proof

end
